-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  IdealRules.named_const.Statement Cert.KernelIdeal.κ "coef" .f32 0x3C9E79E8#32 ((13 / 672 : ℝ) : EReal)

def preserves_Reference_ReferenceIdeal : Prop :=
  IdealRules.named_const.Statement Cert.ReferenceIdeal.κ "rh" .f32 0x3F266666#32 ((13 / 20 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal) (hPre_in_range := hPre_in_range)
-- ==== Pre_in_range.lean ====
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1 .f32) (main_arg1 : FVec F S1 .f32) (main_arg2 : IVec S1 32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S1 : Shape := ⟨1, ![1]⟩
abbrev S_ : Shape := ⟨0, ![]⟩

abbrev nBuf : Table → Nat
  | .hbm => 4
  | .local .scScalar .smem => 4
  | _ => 0

abbrev bufTy : (tb : Table) → Fin (nBuf tb) → BufTy
  | .hbm, ⟨0, _⟩ => ⟨S1, .f32⟩
  | .hbm, ⟨1, _⟩ => ⟨S1, .f32⟩
  | .hbm, ⟨2, _⟩ => ⟨S1, .i32⟩
  | .hbm, ⟨3, _⟩ => ⟨S1, .f32⟩
  | .local .scScalar .smem, ⟨0, _⟩ => ⟨S1, .i32⟩
  | .local .scScalar .smem, ⟨1, _⟩ => ⟨S1, .f32⟩
  | .local .scScalar .smem, ⟨2, _⟩ => ⟨S1, .f32⟩
  | .local .scScalar .smem, ⟨3, _⟩ => ⟨S1, .f32⟩
  | _, _ => ⟨S1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg2_scs : Ref sig .scScalar := ⟨.hbm, 2, rfl⟩
abbrev main_arg0_scs : Ref sig .scScalar := ⟨.hbm, 0, rfl⟩
abbrev main_arg1_scs : Ref sig .scScalar := ⟨.hbm, 1, rfl⟩
abbrev main_v0_scs : Ref sig .scScalar := ⟨.hbm, 3, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 1 → Nat :=
  let v2 : Index := Scalar.indexCast v1
  ![v2.toNat]

def k0_chk1 (v1 : BitVec 32) : Prop :=
  (∀ a, (k0_off1 v1) a + S1.size a ≤ S1.size a)
theorem k0_off1_inb : ∀ (v1 : BitVec 32) (k0_hw1 : k0_chk1 v1), ∀ a, (k0_off1 v1) a + S1.size a ≤ S1.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== KernelIdeal.lean ====
variable {F : FTy → Type} [FloatOps F] [Named F]
def κ : String → Option EReal := fun
  | "coef" => some ((13 / 672 : ℝ) : EReal)
  | _ => none
-- ==== ReferenceIdeal.lean ====
variable {F : FTy → Type} [FloatOps F] [Named F]
def κ : String → Option EReal := fun
  | "rh" => some ((13 / 20 : ℝ) : EReal)
  | _ => none
-- ==== Reference.lean ====
abbrev S1 : Shape := ⟨1, ![1]⟩
abbrev S_ : Shape := ⟨0, ![]⟩
abbrev S1x1 : Shape := ⟨2, ![1, 1]⟩

abbrev nBuf : Space → Nat
  | .hbm => 46
  | .vmem => 3
  | .smem => 0
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S_, .i32⟩
  | .hbm, ⟨25, _⟩ => ⟨S1, .i32⟩
  | .hbm, ⟨26, _⟩ => ⟨S1, .i1⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S1, .i32⟩
  | .hbm, ⟨31, _⟩ => ⟨S1x1, .i32⟩
  | .hbm, ⟨32, _⟩ => ⟨S1, .i32⟩
  | .hbm, ⟨33, _⟩ => ⟨S_, .i32⟩
  | .hbm, ⟨34, _⟩ => ⟨S1x1, .i32⟩
  | .hbm, ⟨35, _⟩ => ⟨S1x1, .i1⟩
  | .hbm, ⟨36, _⟩ => ⟨S1x1, .i32⟩
  | .hbm, ⟨37, _⟩ => ⟨S1x1, .i1⟩
  | .hbm, ⟨38, _⟩ => ⟨S1x1, .i1⟩
  | .hbm, ⟨39, _⟩ => ⟨S_, .i1⟩
  | .hbm, ⟨40, _⟩ => ⟨S1, .i1⟩
  | .hbm, ⟨41, _⟩ => ⟨S1, .f32⟩
  | .hbm, ⟨42, _⟩ => ⟨S_, .f32⟩
  | .hbm, ⟨43, _⟩ => ⟨S1, .f32⟩
  | .hbm, ⟨44, _⟩ => ⟨S1, .f32⟩
  | .hbm, ⟨45, _⟩ => ⟨S1, .f32⟩
  | .local _ .vmem, ⟨0, _⟩ => ⟨S1, .f32⟩
  | .local _ .vmem, ⟨1, _⟩ => ⟨S1, .f32⟩
  | .local _ .vmem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_cst : Ref sig .tc := ⟨.hbm, 21, rfl⟩
abbrev main_call0_v13 : Ref sig .tc := ⟨.hbm, 22, rfl⟩
abbrev main_v0 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_c_3 : Ref sig .tc := ⟨.hbm, 39, rfl⟩
abbrev main_call1_v11 : Ref sig .tc := ⟨.hbm, 40, rfl⟩
abbrev main_call1_v12 : Ref sig .tc := ⟨.hbm, 41, rfl⟩
abbrev main_call1_cst : Ref sig .tc := ⟨.hbm, 42, rfl⟩
abbrev main_call1_v13 : Ref sig .tc := ⟨.hbm, 43, rfl⟩
abbrev main_v1 : Ref sig .tc := ⟨.hbm, 44, rfl⟩
abbrev main_v2 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Launch.lean ====
/-
  The lookup kernel as the SparseCore launch theorem sees it: one call, on one SparseCore, whose sequencer alone works.
  Stated here: the program and its handshakes, the arrays and the sequencer's own buffers and counters, and what the call
  carries — the three arguments and the result array on the way in, the same on the way back with the result array holding
  the looked-up value (`outVal`).
-/
module

public import proofs.«01_k».proof.Defs
public import Idealize.ShloMosaic.Lib.SparseCore.Quiescent
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and its handshakes -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's five semaphores are distinct and none of them is scratch; no table of the SparseCore's memory is shared with its tiles' tasks. -/
theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, beside the counters of the copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as the TensorCore holds them and as the sequencer addresses them -/

variable (m : (ℓ : Loc nD τ sig) → Buf (Elt F) ℓ)

abbrev gLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_arg2
abbrev oLoc (d : Dev nD) : Loc nD τ sig := (SparseCore.T d).loc main_v0

local notation "iW" => (Memref.whole Cert.KernelIdeal.main_arg2_scs : Memref Cert.KernelIdeal.sig Kind.scScalar Space.hbm Cert.KernelIdeal.S1 EltTy.i32)
local notation "gW" => (Memref.whole Cert.KernelIdeal.main_arg0_scs : Memref Cert.KernelIdeal.sig Kind.scScalar Space.hbm Cert.KernelIdeal.S1 EltTy.f32)
local notation "aW" => (Memref.whole Cert.KernelIdeal.main_arg1_scs : Memref Cert.KernelIdeal.sig Kind.scScalar Space.hbm Cert.KernelIdeal.S1 EltTy.f32)
local notation "oW" => (Memref.whole Cert.KernelIdeal.main_v0_scs : Memref Cert.KernelIdeal.sig Kind.scScalar Space.hbm Cert.KernelIdeal.S1 EltTy.f32)
local notation "iS" => (Memref.whole Cert.KernelIdeal.cc0_scratch0 : Memref Cert.KernelIdeal.sig Kind.scScalar Space.smem Cert.KernelIdeal.S1 EltTy.i32)
local notation "gS" => (Memref.whole Cert.KernelIdeal.cc0_scratch1 : Memref Cert.KernelIdeal.sig Kind.scScalar Space.smem Cert.KernelIdeal.S1 EltTy.f32)
local notation "aS" => (Memref.whole Cert.KernelIdeal.cc0_scratch2 : Memref Cert.KernelIdeal.sig Kind.scScalar Space.smem Cert.KernelIdeal.S1 EltTy.f32)
local notation "oS" => (Memref.whole Cert.KernelIdeal.cc0_scratch3 : Memref Cert.KernelIdeal.sig Kind.scScalar Space.smem Cert.KernelIdeal.S1 EltTy.f32)

/-- The sequencer's four scratch buffers in its scalar memory, by number: the index, the two looked-up words, the result. -/
abbrev scr : Fin 4 → Ref sig .scScalar := ![cc0_scratch0, cc0_scratch1, cc0_scratch2, cc0_scratch3]

abbrev scrRef (c : Fin τ.nSC) (k : Fin 4) : DevRef τ sig := (Proc.scScalar c).devRef (scr k)

/-- The sequencer's two semaphores by number: the one the three loads share, and the one of the store. -/
abbrev cell (d : Dev nD) (c : Fin τ.nSC) : Fin 2 → GSem nD τ sig :=
  ![(S d c, .dma cc0_scratch4.sem), (S d c, .dma cc0_scoped0.sem)]

/-- A scratch buffer whole, at some contents. -/
abbrev scrPts (d : Dev nD) (c : Fin τ.nSC) (k : Fin 4) : sProp 𝕄 := iprop(∃ f, ((d, scrRef c k) : Loc nD τ sig) ↦{fullShare} f)

theorem scr_mem (c : Fin τ.nSC) (k : Fin 4) : scrRef c k ∈ ownRefs (τ := τ) (sig := sig) (.scScalar c) := by
  rw [mem_ownRefs]; fin_cases k <;> rfl

theorem scr_inj (c : Fin τ.nSC) : Function.Injective (scrRef c) := by
  intro a b h; revert a b h; revert c; decide

/-- The sequencer's own buffers are its four scratch buffers and the rest. -/
theorem ownBufs_split (d : Dev nD) (c : Fin τ.nSC) :
    (ownBufs (S d c) : sProp 𝕄)
      = iprop((scrPts d c 0 ∗ scrPts d c 1 ∗ scrPts d c 2 ∗ scrPts d c 3)
          ∗ bigSep (ownRefs (τ := τ) (.scScalar c) \ Finset.univ.image (scrRef c)) fun b => iprop(∃ f, ((d, b) : Loc nD τ sig) ↦{fullShare} f)) := by
  unfold SparseCore.Cfg.ownBufs
  rw [SparseCore.bigSep_sdiff_split' (t := Finset.univ.image (scrRef c)) (Finset.image_subset_iff.mpr fun k _ => scr_mem c k),
    SparseCore.bigSep_image_of_injOn (fun a _ b _ h => scr_inj c h)]
  rw [show (Finset.univ : Finset (Fin 4)) = {0, 1, 2, 3} by decide,
    SparseCore.bigSep_insert' (by decide), SparseCore.bigSep_insert' (by decide), SparseCore.bigSep_insert' (by decide), bigSep_singleton]

theorem cell_mem (d : Dev nD) (c : Fin τ.nSC) (k : Fin 2) : cell d c k ∈ ownCells (S d c) := by
  rw [mem_ownCells]
  fin_cases k
  · exact ⟨rfl, show (SemLoc.dma cc0_scratch4.sem : SemLoc sig).isScoped .scScalar = true by decide⟩
  · exact ⟨rfl, show (SemLoc.dma cc0_scoped0.sem : SemLoc sig).isScoped .scScalar = true by decide⟩

theorem cell_inj (d : Dev nD) (c : Fin τ.nSC) : Function.Injective (cell d c) := by
  intro a b h
  have h' := congrArg (fun g : GSem nD τ sig => g.2) h
  fin_cases a <;> fin_cases b
  · rfl
  · exact absurd h' (show ¬ (SemLoc.dma cc0_scratch4.sem : SemLoc sig) = .dma cc0_scoped0.sem by decide)
  · exact absurd h' (show ¬ (SemLoc.dma cc0_scoped0.sem : SemLoc sig) = .dma cc0_scratch4.sem by decide)
  · rfl

/-- The sequencer's own counters at zero are its two semaphores at zero and the rest. -/
theorem ownSems_split (d : Dev nD) (c : Fin τ.nSC) :
    (ownSems0 (S d c) : sProp 𝕄)
      = iprop((semVal (cell d c 0) 0 ∗ semVal (cell d c 1) 0) ∗ bigSep (ownCells (S d c) \ Finset.univ.image (cell d c)) fun g => semVal g 0) := by
  unfold SparseCore.Cfg.ownSems0
  rw [SparseCore.bigSep_sdiff_split' (t := Finset.univ.image (cell d c)) (Finset.image_subset_iff.mpr fun k _ => cell_mem d c k),
    SparseCore.bigSep_image_of_injOn (fun a _ b _ h => cell_inj d c h)]
  rw [show (Finset.univ : Finset (Fin 2)) = {0, 1} by decide, SparseCore.bigSep_insert' (by decide), bigSep_singleton]

/-! ## What the call carries -/

variable [FloatOps F] [Named F]

/-- The value the kernel leaves when the index names row 0, the tables' one row: `gs0[0] + a1[0] * coef`. -/
def outVal (d : Dev nD) : Buf (Elt F) (oLoc d) := fun j => k0_pay1 (F := F) (m (gLoc d) j) (m (aLoc d) j)

/-- The three arguments at their launch contents. -/
abbrev args (d : Dev nD) : sProp 𝕄 :=
  iprop((gLoc d ↦{fullShare} m (gLoc d)) ∗ (aLoc d ↦{fullShare} m (aLoc d)) ∗ iLoc d ↦{fullShare} m (iLoc d))

/-- In: the arguments, and the result array at whatever it holds. Back: the arguments, and the result array at `outVal`. -/
abbrev callIn (d : Dev nD) : sProp 𝕄 := iprop(args m d ∗ ∃ f, oLoc d ↦{fullShare} f)
abbrev callOut (d : Dev nD) : sProp 𝕄 := iprop(args m d ∗ oLoc d ↦{fullShare} outVal m d)

/-- The call's payloads; the tiles get nothing. -/
def P : (K (F := F)).Pay (nD := nD) (Val := Elt F) (Name := ℕ) (U := UU) where
  st := fun _ d _ => callIn m d
  dn := fun _ d _ => callOut m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.Lookup

end
-- ==== Proof.Words.lean ====
/-
  Buffers of one word. A shape `[1]` has one index, so a load of a word at any offset reads the one word there is, and a
  store of a word leaves exactly that word.
-/
module

public import Idealize.ShloMosaic.Lib.Writes
public import proofs.«01_k».proof.KernelIdeal

@[expose] public section

noncomputable section

namespace Cert.Proof.Lookup

open Cert.KernelIdeal Idealize.ShloMosaic

/-- Any two indices of the shape `[1]` are the same. -/
theorem idx_one_eq (i j : S1.Idx) : i = j := by
  funext a
  match a with
  | ⟨0, _⟩ => exact Fin.ext (show (i 0).val = (j 0).val by have h1 : (i 0).val < 1 := (i 0).isLt; have h2 : (j 0).val < 1 := (j 0).isLt; omega)

variable {Sg : RefSig} {κ : Kind} {sp : Space} {e : EltTy} {Val : EltTy → Type}

/-- A word loaded, at whatever offset, from a one-word buffer that was just overwritten with `w` is the word of `w`, at whatever index. -/
theorem load_overwritten (v : View Sg κ sp S1 e) (f : v.ty.Contents Val) (w : S1.Idx → Val e) (r : LoadRect S1) (x : r.shape.Idx) (j : S1.Idx) :
    v.readAt Val r (v.write Val f w Finset.univ) x = w j := by
  rw [View.readAt_apply, View.read_write_univ, idx_one_eq (r.idx x) j]

/-- A one-word buffer read whole after one store of the word `p` through the rectangle at offset 0 is `p`. -/
theorem read_stored (v : View Sg κ sp S1 e) (f : v.ty.Contents Val) (inb : ∀ a, (![0] : Fin 1 → Nat) a + S1.size a ≤ S1.size a) (p : Val e) (j : S1.Idx) :
    v.read Val (v.writes Val f [⟨Rect.unit (s := S1) ![0] S1.size inb, fun _ => p⟩]) j = p := by
  refine View.read_writes_apply_of_pieces v f (fun _ => p) _ ?_ j ⟨_, List.mem_singleton_self _, ?_⟩
  · intro q hq x
    obtain rfl := List.mem_singleton.mp hq
    rfl
  · refine (Rect.mem_set_unit (inb := inb)).mpr fun a => ?_
    match a with
    | ⟨0, _⟩ => exact ⟨Nat.zero_le _, by have := (j 0).isLt; show (j 0).val < 0 + S1.size 0; omega⟩

end Cert.Proof.Lookup

end
-- ==== Proof.Body.lean ====
/-
  The sequencer's run of the lookup kernel: three copies into its scalar memory in flight at once on one semaphore, three
  waits, the lookup and the multiply-add, and the copy of the result back.
-/
module

public import proofs.«01_k».proof.Proof.Launch
public import proofs.«01_k».proof.Proof.Words

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ
local notation "iW" => (Memref.whole Cert.KernelIdeal.main_arg2_scs : Memref Cert.KernelIdeal.sig Kind.scScalar Space.hbm Cert.KernelIdeal.S1 EltTy.i32)
local notation "gW" => (Memref.whole Cert.KernelIdeal.main_arg0_scs : Memref Cert.KernelIdeal.sig Kind.scScalar Space.hbm Cert.KernelIdeal.S1 EltTy.f32)
local notation "aW" => (Memref.whole Cert.KernelIdeal.main_arg1_scs : Memref Cert.KernelIdeal.sig Kind.scScalar Space.hbm Cert.KernelIdeal.S1 EltTy.f32)
local notation "oW" => (Memref.whole Cert.KernelIdeal.main_v0_scs : Memref Cert.KernelIdeal.sig Kind.scScalar Space.hbm Cert.KernelIdeal.S1 EltTy.f32)
local notation "iS" => (Memref.whole Cert.KernelIdeal.cc0_scratch0 : Memref Cert.KernelIdeal.sig Kind.scScalar Space.smem Cert.KernelIdeal.S1 EltTy.i32)
local notation "gS" => (Memref.whole Cert.KernelIdeal.cc0_scratch1 : Memref Cert.KernelIdeal.sig Kind.scScalar Space.smem Cert.KernelIdeal.S1 EltTy.f32)
local notation "aS" => (Memref.whole Cert.KernelIdeal.cc0_scratch2 : Memref Cert.KernelIdeal.sig Kind.scScalar Space.smem Cert.KernelIdeal.S1 EltTy.f32)
local notation "oS" => (Memref.whole Cert.KernelIdeal.cc0_scratch3 : Memref Cert.KernelIdeal.sig Kind.scScalar Space.smem Cert.KernelIdeal.S1 EltTy.f32)

variable (m : (ℓ : Loc nD τ sig) → Buf (Elt F) ℓ) (d : Dev nD)
variable [FloatOps F] [Named F]

/-- The grid point of SparseCore number `c`. -/
def coordsS (c : Fin (grid0.bound 0)) : grid0.Coords := fun | 0 => c | ⟨_ + 1, h⟩ => absurd h (Nat.not_lt.2 (Nat.le_add_left _ _))

/-- The sequencer's thread of SparseCore 0. -/
abbrev S0 (h : 0 < grid0.bound 0) : Thread nD τ := S d ((⟨0, h⟩ : Fin (grid0.bound 0)).castLE hcore0)

theorem seq_run (h : 0 < grid0.bound 0) (O : CellTallies nD τ sig (HIx 1)) (W : Waits sig (HIx 1))
    (hi : m (iLoc d) = fun _ => 0#32)
    (fo : Buf (Elt F) (oLoc d))
    (f0 : Buf (Elt F) ((iS).view.loc (S0 d h))) (f1 : Buf (Elt F) ((gS).view.loc (S0 d h)))
    (f2 : Buf (Elt F) ((aS).view.loc (S0 d h))) (f3 : Buf (Elt F) ((oS).view.loc (S0 d h))) :
    (iprop(Transfers.MayWaits (S0 d h) (none : HIx 1) O
        ∗ ((gW).view.loc (S0 d h) ↦{fullShare} m (gLoc d)) ∗ ((aW).view.loc (S0 d h) ↦{fullShare} m (aLoc d))
        ∗ ((iW).view.loc (S0 d h) ↦{fullShare} m (iLoc d)) ∗ ((oW).view.loc (S0 d h) ↦{fullShare} fo)
        ∗ ((iS).view.loc (S0 d h) ↦{fullShare} f0) ∗ ((gS).view.loc (S0 d h) ↦{fullShare} f1)
        ∗ ((aS).view.loc (S0 d h) ↦{fullShare} f2) ∗ ((oS).view.loc (S0 d h) ↦{fullShare} f3)
        ∗ semVal (S0 d h, SemLoc.dma cc0_scratch4.sem) 0 ∗ semVal (S0 d h, SemLoc.dma cc0_scoped0.sem) 0
        ∗ owes (S0 d h) O W) : sProp 𝕄)
      ⊢ wp frame (wpE (defs₀ (F := F)) 𝒱₀ (S0 d h) none) Set.univ
          (cc0__scs_body (coordsS ⟨0, h⟩) iW (Memref.isWhole_whole _) gW (Memref.isWhole_whole _) aW (Memref.isWhole_whole _) oW (Memref.isWhole_whole _)
            iS (Memref.isWhole_whole _) gS (Memref.isWhole_whole _) aS (Memref.isWhole_whole _) oS (Memref.isWhole_whole _) cc0_scratch4 cc0_scoped0)
          fun _ => iprop(((gW).view.loc (S0 d h) ↦{fullShare} m (gLoc d)) ∗ ((aW).view.loc (S0 d h) ↦{fullShare} m (aLoc d))
            ∗ ((iW).view.loc (S0 d h) ↦{fullShare} m (iLoc d)) ∗ ((oW).view.loc (S0 d h) ↦{fullShare} outVal m d)
            ∗ (∃ f, (iS).view.loc (S0 d h) ↦{fullShare} f) ∗ (∃ f, (gS).view.loc (S0 d h) ↦{fullShare} f)
            ∗ (∃ f, (aS).view.loc (S0 d h) ↦{fullShare} f) ∗ (∃ f, (oS).view.loc (S0 d h) ↦{fullShare} f)
            ∗ semVal (S0 d h, SemLoc.dma cc0_scratch4.sem) 0 ∗ semVal (S0 d h, SemLoc.dma cc0_scoped0.sem) 0
            ∗ ∃ W', owes (S0 d h) O W') := by
  have _plan : Transfers.BatchOf (S0 d h) (SemLoc.dma (sig := sig) cc0_scratch4.sem) 3 := Transfers.BatchOf.intro ..
  rw [cc0__scs_body_eq_skeleton]; unfold cc0__scs_body_skel
  iintro ⟨Hmw, Hg, Ha, Hi, Ho, Hs0, Hs1, Hs2, Hs3, Hc0, Hc1, HO⟩
  sl_exec
  -- the index word is 0, so the lookups stay inside the tables
  have hr : seq_run.sl.r m d h f0 = 0#32 := by
    unfold seq_run.sl.r seq_run.sl.dma0
    refine (load_overwritten _ _ _ _ _ (Shape.Idx.first (s := S1) (by decide))).trans ?_
    exact congrFun hi _
  have hchk : k0_chk1 (seq_run.sl.r m d h f0) := by rw [hr]; decide
  sl_exec
  -- what the copy out leaves in the result array
  have ho : View.write (Elt F) (Memref.whole main_v0_scs).view fo (seq_run.sl.dma4 m d h f0 f1 f2 f3 hchk) Finset.univ = outVal m d := by
    refine (View.write_whole_univ main_v0_scs fo _).trans (funext fun j => ?_)
    sl_unfold_run_names
    refine (read_stored _ _ _ _ j).trans ?_
    rw [load_overwritten (Memref.whole cc0_scratch1).view _ _ _ _ j, load_overwritten (Memref.whole cc0_scratch2).view _ _ _ _ j]
    rfl
  sl_step
  isplitl [Hg]; · iexact Hg
  isplitl [Ha]; · iexact Ha
  isplitl [Hi]; · iexact Hi
  isplitl [Ho]; · rw [← ho]; iexact Ho
  isplitl [Hs0]; · iexists _; iexact Hs0
  isplitl [Hs1]; · iexists _; iexact Hs1
  isplitl [Hs2]; · iexists _; iexact Hs2
  isplitl [Hs3]; · iexists _; iexact Hs3
  isplitl [Hc0]; · iexact Hc0
  isplitl [Hc1]; · iexact Hc1
  iexists _; iexact HO

end Cert.Proof.Lookup

end
-- ==== Proof.Run.lean ====
/-
  The lookup kernel's run over any float values, from any memory whose index is 0: the sequencer's obligation around
  `seq_run`, @main's one call, and the run of the whole machine — every weakly fair execution terminates, the arguments
  are unchanged, the result array holds `outVal` and every counter is back at zero.
-/
module

public import proofs.«01_k».proof.Proof.Body

@[expose] public section

noncomputable section

namespace Cert.Proof.Lookup

open Cert.KernelIdeal Cert.KernelIdeal.Gen

open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A buffer held whole through the memref of all of it, as a sequencer addresses it, is that buffer held whole. -/
theorem pts_whole (thr : Thread nD τ) (b : Ref sig thr.2.kind) (f : Buf (Elt F) (thr.loc b)) :
    ((Memref.whole b).view.loc thr ↦{fullShare} f : sProp 𝕄) = thr.loc b ↦{fullShare} f := by
  simp only [Memref.view_whole, View.set_whole]

variable (m : (ℓ : Loc nD τ sig) → Buf (Elt F) ℓ) (ρ : Dev nD → PrngReg)
variable [FloatOps F] [Named F]

/-! ## The sequencer's obligation -/

/-- The body as the launch asks for it: the sequencer's own buffers and counters opened at the four scratch buffers and the
    two semaphores, around `seq_run`, and closed again. -/
theorem body_obl (d : Dev nD) (h : 0 < grid0.bound 0) (O : CellTallies nD τ sig (HIx 1)) (W : Waits sig (HIx 1)) (hO : ∀ g, O g none = 0)
    (hi : m (iLoc d) = fun _ => 0#32) :
    iprop(levAts (K (F := F)).L (K (F := F)).lev ∗ emp ∗ callIn m d
        ∗ scopedBufs (S0 d h) ∗ scopedSems0 (S0 d h) ∗ owes (S0 d h) O W)
      ⊢ wp frame (wpE (defs₀ (F := F)) 𝒱₀ (S0 d h) none) Set.univ
          (cc0__scs_body (coordsS ⟨0, h⟩) (Memref.whole main_arg2_scs) (Memref.isWhole_whole _) (Memref.whole main_arg0_scs) (Memref.isWhole_whole _)
            (Memref.whole main_arg1_scs) (Memref.isWhole_whole _) (Memref.whole main_v0_scs) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scoped0)
          fun _ => iprop(callOut m d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S launch_facts d _, SparseCore.Cfg.scopedSems0_S (Val := Elt F) d _, ownSems_split, ownBufs_split]
  iintro ⟨#Hlv, -, ⟨⟨Hg, Ha, Hi⟩, %fo, Ho⟩, ⟨⟨⟨⟨%f0, Hs0⟩, ⟨%f1, Hs1⟩, ⟨%f2, Hs2⟩, ⟨%f3, Hs3⟩⟩, Hbufs⟩, Htiles⟩, ⟨⟨⟨Hc0, Hc1⟩, Hsems⟩, HtileSems⟩, HO⟩
  ihave Hmw := ((K (F := F)).mayWaits_none (thr := S0 d h) hO) $$ Hlv
  iapply (wp_wand_r Idealize.ShloMosaic.frame (wpE (defs₀ (F := F)) 𝒱₀ (S0 d h) none) Set.univ)
  isplitl [Hg Ha Hi Ho Hs0 Hs1 Hs2 Hs3 Hc0 Hc1 HO]
  · iapply (seq_run m d h O W hi fo f0 f1 f2 f3)
    isplitr; · iexact Hmw
    isplitl [Hg]; · iapply (Entails.of_eq (pts_whole (S0 d h) main_arg0_scs _).symm); iexact Hg
    isplitl [Ha]; · iapply (Entails.of_eq (pts_whole (S0 d h) main_arg1_scs _).symm); iexact Ha
    isplitl [Hi]; · iapply (Entails.of_eq (pts_whole (S0 d h) main_arg2_scs _).symm); iexact Hi
    isplitl [Ho]; · iapply (Entails.of_eq (pts_whole (S0 d h) main_v0_scs _).symm); iexact Ho
    isplitl [Hs0]; · iapply (Entails.of_eq (pts_whole (S0 d h) cc0_scratch0 _).symm); iexact Hs0
    isplitl [Hs1]; · iapply (Entails.of_eq (pts_whole (S0 d h) cc0_scratch1 _).symm); iexact Hs1
    isplitl [Hs2]; · iapply (Entails.of_eq (pts_whole (S0 d h) cc0_scratch2 _).symm); iexact Hs2
    isplitl [Hs3]; · iapply (Entails.of_eq (pts_whole (S0 d h) cc0_scratch3 _).symm); iexact Hs3
    isplitl [Hc0]; · iexact Hc0
    isplitl [Hc1]; · iexact Hc1
    iexact HO
  iintro %_ ⟨Hg, Ha, Hi, Ho, ⟨%f0', Hs0⟩, ⟨%f1', Hs1⟩, ⟨%f2', Hs2⟩, ⟨%f3', Hs3⟩, Hc0, Hc1, %W', HO⟩
  isplitl [Hg Ha Hi Ho]
  · isplitl [Hg Ha Hi]
    · isplitl [Hg]; · iapply (Entails.of_eq (pts_whole (S0 d h) main_arg0_scs _)); iexact Hg
      isplitl [Ha]; · iapply (Entails.of_eq (pts_whole (S0 d h) main_arg1_scs _)); iexact Ha
      iapply (Entails.of_eq (pts_whole (S0 d h) main_arg2_scs _)); iexact Hi
    iapply (Entails.of_eq (pts_whole (S0 d h) main_v0_scs _)); iexact Ho
  isplitl [Hs0 Hs1 Hs2 Hs3 Hbufs Htiles]
  · isplitl [Hs0 Hs1 Hs2 Hs3 Hbufs]
    · isplitl [Hs0 Hs1 Hs2 Hs3]
      · isplitl [Hs0]; · iexists _; iapply (Entails.of_eq (pts_whole (S0 d h) cc0_scratch0 _)); iexact Hs0
        isplitl [Hs1]; · iexists _; iapply (Entails.of_eq (pts_whole (S0 d h) cc0_scratch1 _)); iexact Hs1
        isplitl [Hs2]; · iexists _; iapply (Entails.of_eq (pts_whole (S0 d h) cc0_scratch2 _)); iexact Hs2
        iexists _; iapply (Entails.of_eq (pts_whole (S0 d h) cc0_scratch3 _)); iexact Hs3
      iexact Hbufs
    iexact Htiles
  isplitl [Hc0 Hc1 Hsems HtileSems]
  · isplitl [Hc0 Hc1 Hsems]
    · isplitl [Hc0 Hc1]
      · isplitl [Hc0]; · iexact Hc0
        iexact Hc1
      iexact Hsems
    iexact HtileSems
  iexists W'; isplitr
  · ipureintro; intro p _
    rcases p.2 with _ | q
    · exact .inr (.inl rfl)
    · exact .inr (.inr (congrArg some (Subsingleton.elim q 0)))
  · iexact HO

theorem defs₀_scalar (c : Fin τ.nSC) :
    defs₀ (F := F) (.scScalar c) 0 ()
      = SparseCore.onCore hcore0 (fun c => cc0__scs_body (coordsS c) (Memref.whole main_arg2_scs) (Memref.isWhole_whole _) (Memref.whole main_arg0_scs) (Memref.isWhole_whole _)
            (Memref.whole main_arg1_scs) (Memref.isWhole_whole _) (Memref.whole main_v0_scs) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _) cc0_scratch4 cc0_scoped0) ⟨⟩ c := rfl

/-- Call 0's obligation on its one sequencer. -/
theorem scalarObl (hi : ∀ d, m (iLoc d) = fun _ => 0#32) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body_obl m d h O W hO (hi d)

/-! ## The launch's ghost state -/

def u₀ : UU := (initOf (K (F := F)).hsCells (K (F := F)).hsToks, 1)

omit [FloatOps F] [Named F] in
theorem emp_const {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emp_const]; iempintro
  unfold P; dsimp only
  rw [show (bigSep Finset.univ fun _ : Thread nD τ => bigSep Finset.univ fun _ : Fin 1 => (iprop(emp) : sProp 𝕄)) = iprop(emp) from by
    rw [bigSep_congr fun _ _ => emp_const _, emp_const]]
  iempintro

/-! ## @main -/

omit [FloatOps F] [Named F] in
/-- The TensorCore's arrays: the three arguments and the result. -/
theorem unscopedBufs_eq (d : Dev nD) (W : (b : Ref sig .tc) → Buf (Elt F) ((d.tc : Thread nD τ).loc b)) :
    (unscopedBufs d W : sProp 𝕄)
      = iprop((gLoc d ↦{fullShare} W main_arg0) ∗ (aLoc d ↦{fullShare} W main_arg1) ∗ (iLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The call hands its one SparseCore the four arrays, and takes them back. -/
theorem st_eq (d : Dev nD) : (bigSep Finset.univ fun c : Fin ((K (F := F)).nCore 0) => (P m).st 0 d c) = callIn m d := by
  show (bigSep (Finset.univ : Finset (Fin 1)) fun _ => callIn m d) = _
  rw [show (Finset.univ : Finset (Fin 1)) = {0} by decide, bigSep_singleton]
theorem dn_eq (d : Dev nD) : (bigSep Finset.univ fun c : Fin ((K (F := F)).nCore 0) => (P m).dn 0 d c) = callOut m d := by
  show (bigSep (Finset.univ : Finset (Fin 1)) fun _ => callOut m d) = _
  rw [show (Finset.univ : Finset (Fin 1)) = {0} by decide, bigSep_singleton]

/-- @main on device `d`: the call, from the four arrays to the four arrays. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ callOut m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hg, Ha, Hi, Ho⟩, Hts, -⟩, -⟩
  iapply ((K (F := F)).wp_run (D (F := F)) 𝒱 (EH := EH) (P := P m) κ d 0) $$ [Hst Hg Ha Hi Ho Hb Hts]
  isplitr; · iexact Hctx
  isplitl [Hst]; · iexact Hst
  isplitl [Hg Ha Hi Ho]
  · rw [st_eq]
    isplitl [Hg Ha Hi]
    · isplitl [Hg]; · iexact Hg
      isplitl [Ha]; · iexact Ha
      iexact Hi
    iexists _; iexact Ho
  iintro ⟨Hst, Hdn⟩
  ihave Hdn' := (Entails.of_eq (dn_eq m d)) $$ Hdn
  imodintro
  isplitl [Hst]; · iexact Hst
  isplitl [Hdn']; · iexact Hdn'
  isplitl [Hb] <;> iassumption

/-- What the memory holds at the end on device `d`. -/
def fq (d : Dev nD) (s' : Phys nD τ sig (Elt F)) : Prop :=
  s'.mem.mem (oLoc d) = outVal m d ∧ s'.mem.mem (gLoc d) = m (gLoc d) ∧ s'.mem.mem (aLoc d) = m (aLoc d) ∧ s'.mem.mem (iLoc d) = m (iLoc d)

theorem hfin (d : Dev nD) (s' : Phys nD τ sig (Elt F)) : iprop(callOut m d ∗ SI s') ⊢ (⌜fq m d s'⌝ : sProp 𝕄) := by
  unfold callOut args
  iintro ⟨⟨⟨Hg, Ha, Hi⟩, Ho⟩, HSI⟩
  icombine HSI Ho gives %ho
  icombine HSI Hg gives %hg
  icombine HSI Ha gives %ha
  icombine HSI Hi gives %hi
  ipureintro
  exact ⟨funext fun j => ho j (Finset.mem_univ j), funext fun j => hg j (Finset.mem_univ j), funext fun j => ha j (Finset.mem_univ j),
    funext fun j => hi j (Finset.mem_univ j)⟩

/-! ## The run -/

/-- The run's post: the result, the arguments, the counters. -/
def QC : PUnit × MemSt nD τ sig (Elt F) → Prop := fun r =>
  (∀ c : Dev nD, r.2.mem (oLoc c) = outVal m c ∧ r.2.mem (gLoc c) = m (gLoc c) ∧ r.2.mem (aLoc c) = m (aLoc c) ∧ r.2.mem (iLoc c) = m (iLoc c)) ∧ r.2.sem = fun _ => 0

theorem run_main [∀ e, Nonempty (Elt F e)] (hi : ∀ d, m (iLoc d) = fun _ => 0#32) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q _ => match q with | 0 => scalarObl m hi)
    (fun q hq => match q with | 0 => nomatch hq)
    (fun q hq => match q with | 0 => nomatch hq)
    m ρ main (fun _ => iprop(emp)) (callOut m) (u₀ (F := F)) (sep_elim_left.trans (hu₀ m)) (hmain m ρ) (fq m) (hfin m) (QC m) (fun _ h hz => ⟨h, hz⟩)

end Cert.Proof.Lookup

end
-- ==== Proof.Range.lean ====
/-
  The precondition read back: `in_range` all ones says that the one index is the word 0.
-/
module

public import proofs.«01_k».proof.Defs
public import proofs.«01_k».proof.Proof.Gen.Pre_in_range
public import Idealize.ShloMosaic.Lib.ReduceAll

@[expose] public section

noncomputable section

namespace Cert.Proof.Range

open Idealize.ShloMosaic

/-- A conjunction bit that is one has both its bits one. -/
theorem bits_of_and : ∀ p q : BitVec 1, IntOp.andi p q = 1#1 → p = 1#1 ∧ q = 1#1 := by decide

/-- A word that is at least 0 and below 1, read signed, is 0. -/
theorem word_zero (w : BitVec 32) (h0 : IntOp.cmpi .sge w 0#32 = 1#1) (h1 : IntOp.cmpi .slt w 1#32 = 1#1) : w = 0#32 := by
  have bit : ∀ b : Bool, BitVec.ofBool b = 1#1 → b = true := by decide
  have l : (0 : ℤ) ≤ w.toInt := by simpa [BitVec.sle] using bit _ h0
  have u : w.toInt < 1 := by simpa [BitVec.slt] using bit _ h1
  exact BitVec.eq_of_toInt_eq (by rw [BitVec.toInt_zero]; omega)

/-- The precondition holds of the index array only when its one entry is 0. -/
theorem index_zero {F : FTy → Type} [FloatOps F] (g a : FVec F Pre_in_range.S1 .f32) (i : IVec Pre_in_range.S1 32)
    (h : Pre_in_range.fn (F := F) g a i = fun _ => 1#1) : i = fun _ => 0#32 := by
  funext j
  haveI : Subsingleton Pre_in_range.S_.Idx := ⟨fun x y => funext fun k => k.elim0⟩
  have hj := bits_of_and _ _ (Host.reduce_andi_all _ _ _ _ _ (congrFun h fun k => k.elim0) j)
  exact word_zero (i j) hj.1 hj.2

end Cert.Proof.Range

end
-- ==== Proof.Frames.lean ====
/-
  The kernel's two frame claims, from the one run over any float values: at extended reals, and at machine floats, where
  the named constant is read as its own bit pattern and the two printed kernels are the same program.
-/
module

public import proofs.«01_k».proof.Defs
public import proofs.«01_k».proof.Proof.Gen.Kernel
public import proofs.«01_k».proof.Proof.Run
public import proofs.«01_k».proof.Proof.Range

@[expose] public section

noncomputable section

namespace Cert.Proof.Frames

open Idealize.ShloMosaic Idealize.SL.Sem

/-- The idealized kernel terminates without a fault, leaves its arguments as they were and every counter at zero. -/
theorem kernelIdeal : Cert.quiescent_KernelIdeal := fun m ρ h =>
  (θ_run _ _ _).mono (fun _ r => ⟨fun c => (r.1 c).2, r.2⟩)
    (Lookup.run_main (F := Ideal) m ρ fun d => Range.index_zero _ _ _ (h d))

/-- At machine floats a named constant is its bit pattern. -/
local instance : Named Bits where
  named _ _ _ b := FloatOps.ofBits _ b

/-- The kernel at machine floats terminates without a fault, leaves its arguments as they were and every counter at zero. -/
theorem kernel : Cert.quiescent_Kernel := fun m ρ h =>
  (θ_run _ _ _).mono (fun _ r => ⟨fun c => (r.1 c).2, r.2⟩)
    (show θ_run (Cert.Kernel.defs (F := Bits)) (Cert.Kernel.threads (F := Bits)) ⟨m, fun _ => 0, ρ⟩ (Lookup.QC (F := Bits) m) from
      Lookup.run_main (F := Bits) m ρ fun d => Range.index_zero _ _ _ (h d))

end Cert.Proof.Frames

end
-- ==== Proof.Take.lean ====
/-
  The reference's two lookups: where the index is 0, each gathered array is the array it was gathered from.
-/
module

public import proofs.«01_k».proof.Proof.Gen.ReferenceIdeal.Value
public import Idealize.ShloMosaic.Lib.ReduceAll
public import Idealize.ShloMosaic.Lib.StableHlo.RunRead

@[expose] public section

noncomputable section

namespace Cert.Proof.Take

open Cert.ReferenceIdeal Cert.ReferenceIdeal.Gen Idealize.ShloMosaic Idealize.ShloMosaic.TcCoe

variable {F : FTy → Type} [FloatOps F] [Named F]

/-! ## A lookup as a function of the table and the index -/

/-- The index as the lookup uses it: a negative one counted from the end of the table, of length 1. -/
def wrapped (i : IVec S1 32) : IVec S1x1 32 :=
  broadcastInDim S1x1 ![0] bcast_S1_S1x1_0 (select (cmpi .slt i (broadcastInDim S1 ![] bcast_S_S1 (constantI S_ 32 0#32)))
    (addi i (broadcastInDim S1 ![] bcast_S_S1 (constantI S_ 32 1#32))) i)

/-- Whether that index lies in the table. -/
def inside (i : IVec S1 32) : IVec S1 1 :=
  Host.reduce IntOp.andi (andi (cmpi .sge (wrapped i) (broadcastInDim S1x1 ![] bcast_S_S1x1 (constantI S_ 32 0#32)))
    (cmpi .sle (wrapped i) (broadcastInDim S1x1 ![1] bcast_S1_S1x1_1 (constantI S1 32 0#32)))) (constantI S_ 1 1#1) reducesTo_S1x1_S1_d1 h_S_

/-- The lookup: the table's entry at the index, or a NaN when the index is outside the table. -/
def taken (x : FVec F S1 .f32) (i : IVec S1 32) : FVec F S1 .f32 :=
  select (inside i) (Host.gather gather_S1_S1x1_S1_n_0_n_n_0_1_1 x (wrapped i)) (broadcastInDim S1 ![] bcast_S_S1 (constant S_ .f32 0x7FC00000#32))

/-- A vector of one element has one index. -/
theorem one_index (p q : S1.Idx) : p = q := by
  funext k
  obtain rfl : k = 0 := Subsingleton.elim _ _
  exact Fin.ext (by have hp : (p 0).val < 1 := (p 0).isLt; have hq : (q 0).val < 1 := (q 0).isLt; omega)

/-- The index 0 is used as it is. -/
theorem wrapped_zero (y : S1x1.Idx) : wrapped (fun _ => 0#32) y = 0#32 := rfl

/-- The index 0 lies in the table. -/
theorem inside_zero (j : S1.Idx) : inside (fun _ => 0#32) j = 1#1 :=
  Host.reduce_andi_one _ _ _ _ j rfl fun y => by
    show IntOp.andi (IntOp.cmpi .sge (wrapped (fun _ => 0#32) y) 0#32) (IntOp.cmpi .sle (wrapped (fun _ => 0#32) y) 0#32) = 1#1
    rw [wrapped_zero]
    decide

/-- Looking up index 0 in a table of one entry gives the table. -/
theorem taken_zero (x : FVec F S1 .f32) : taken x (fun _ => 0#32) = x := by
  funext j
  show (if inside (fun _ => 0#32) j = 1#1 then _ else _) = _
  rw [if_pos (inside_zero j)]
  exact congrArg x (one_index _ _)

/-! ## The two lookups of the reference -/

variable (m : (ℓ : Loc nD τ sig) → Buf (Elt F) ℓ) (c : Dev nD)

/-- The first parameter's looked-up value, as the reference's kernel finds it. -/
theorem first_taken : V m c main_v0 = taken (m ((c : Thread nD τ).loc main_arg0)) (m ((c : Thread nD τ).loc main_arg2)) := by
  show StableHlo.after (hostOps0 ++ hostOps0_1) _ (Proc.devRef .tc main_v0) = _
  after_reads_simp
  rfl

/-- The second parameter's looked-up value, as the reference's kernel finds it. -/
theorem second_taken : V m c main_v1 = taken (m ((c : Thread nD τ).loc main_arg1)) (m ((c : Thread nD τ).loc main_arg2)) := by
  show StableHlo.after (hostOps0 ++ hostOps0_1) _ (Proc.devRef .tc main_v1) = _
  after_reads_simp
  rfl

/-! ## The reference's result -/

/-- The one grid point of the reference's kernel. -/
abbrev point : Fin cfg0.N := ⟨0, by decide⟩

/-- With index 0, the reference's result array holds at its one index the first parameter plus the second times 12.5, times
    the named 0.65, divided by 420. -/
theorem result (hi : m ((c : Thread nD τ).loc main_arg2) = fun _ => 0#32) :
    (dats m 0 c).arrAt 2 cfg0.N = Value.E2 (F := F) (m ((c : Thread nD τ).loc main_arg0)) (m ((c : Thread nD τ).loc main_arg1)) := by
  funext j
  have hb := congrFun (Value.blocks2 m c point rfl) j
  rw [Value.flushed2] at hb
  have hg : iblk m c 0 point = m ((c : Thread nD τ).loc main_arg0) := by
    have e : V m c main_v0 = m ((c : Thread nD τ).loc main_arg0) := by
      rw [first_taken, hi]; exact taken_zero _
    rw [← e]
    exact funext fun y => congrArg (V m c main_v0) (one_index _ _)
  have ha : iblk m c 1 point = m ((c : Thread nD τ).loc main_arg1) := by
    have e : V m c main_v1 = m ((c : Thread nD τ).loc main_arg1) := by
      rw [second_taken, hi]; exact taken_zero _
    rw [← e]
    exact funext fun y => congrArg (V m c main_v1) (one_index _ _)
  rw [hg, ha] at hb
  have hb' : (dats m 0 c).arrAt 2 cfg0.N (((cfg0.win 2).blk point).view.emb j)
      = out0_2 (m ((c : Thread nD τ).loc main_arg0)) (m ((c : Thread nD τ).loc main_arg1)) j := hb
  rw [one_index (((cfg0.win 2).blk point).view.emb j) j] at hb'
  rw [hb']
  unfold out0_2
  rw [Value.canon2_eq]
  have ld (x : Vec F S1 .f32) : View.ld x r0_0 = x := funext fun y => congrArg x (one_index _ _)
  rw [ld, ld]

end Cert.Proof.Take

end
-- ==== Proof.Equation.lean ====
/-
  The arithmetic over the extended reals: the kernel's one product by 13/672 is the reference's product by 12.5 and by
  13/20 divided by 420, for every parameter, infinite ones included.
-/
module

public import Idealize.ShloMosaic.PureOps.Ideal

@[expose] public section

noncomputable section

namespace Cert.Proof.Equation

open Idealize.ShloMosaic

/-- The reference's literal 12.5. -/
theorem twelve_and_half : Ideal.ofBits .f32 0x41480000#32 = ((25 / 2 : ℝ) : EReal) := by
  simp [Ideal.ofBits, Ideal.ieee, -EReal.coe_mul]; norm_num

/-- The reference's literal 420. -/
theorem four_hundred_twenty : Ideal.ofBits .f32 0x43D20000#32 = ((420 : ℝ) : EReal) := by
  simp [Ideal.ofBits, Ideal.ieee, -EReal.coe_mul]; norm_num

/-- Multiplying by 12.5 and by 13/20 and dividing by 420 is multiplying by 13/672. -/
theorem one_coefficient (a : EReal) :
    Ideal.div (a * ((25 / 2 : ℝ) : EReal) * ((13 / 20 : ℝ) : EReal)) ((420 : ℝ) : EReal) = a * ((13 / 672 : ℝ) : EReal) := by
  have h : ((420 : ℝ) : EReal) ≠ 0 := by exact_mod_cast (by norm_num : (420 : ℝ) ≠ 0)
  rw [Ideal.div, if_neg h, ← EReal.coe_inv, mul_assoc, mul_assoc, ← EReal.coe_mul, ← EReal.coe_mul]
  norm_num

end Cert.Proof.Equation

end
-- ==== Proof.Agree.lean ====
/-
  The value claim: over the extended reals, with the index in range, the kernel's result array is the reference's.
-/
module

public import proofs.«01_k».proof.Defs
public import proofs.«01_k».proof.Proof.Run
public import proofs.«01_k».proof.Proof.Range
public import proofs.«01_k».proof.Proof.Take
public import proofs.«01_k».proof.Proof.Equation

@[expose] public section

noncomputable section

namespace Cert.Proof.Agree

open Idealize.ShloMosaic Idealize.SL.Sem

/-- The value the kernel stores is the value the reference computes from the same two parameters. -/
theorem value (g a : FVec Ideal Cert.ReferenceIdeal.S1 .f32) (j : Cert.ReferenceIdeal.S1.Idx) :
    Cert.ReferenceIdeal.Value.E2 (F := Ideal) g a j = Cert.KernelIdeal.Gen.k0_pay1 (F := Ideal) (g j) (a j) := by
  have hg : g (Cert.ReferenceIdeal.Value.ix2_0 j) = g j := congrArg g (Take.one_index _ _)
  have ha : a (Cert.ReferenceIdeal.Value.ix2_1 j) = a j := congrArg a (Take.one_index _ _)
  show g (Cert.ReferenceIdeal.Value.ix2_0 j)
      + Ideal.div (a (Cert.ReferenceIdeal.Value.ix2_1 j) * Ideal.ofBits .f32 0x41480000#32 * ((13 / 20 : ℝ) : EReal)) (Ideal.ofBits .f32 0x43D20000#32)
    = g j + a j * ((13 / 672 : ℝ) : EReal)
  rw [hg, ha, Equation.twelve_and_half, Equation.four_hundred_twenty, Equation.one_coefficient]

/-- From memories agreeing on the arguments, the index in range, both programs run, keep their arguments and end with the
    same result array. -/
theorem kernel_reference : Cert.algebraic_KernelIdeal_ReferenceIdeal := by
  intro m ρ m' ρ' hpre hargs
  have hi : ∀ d, m (Lookup.iLoc d) = fun _ => 0#32 := fun d => Range.index_zero _ _ _ (hpre d)
  refine ⟨Lookup.outVal (F := Ideal) m, (θ_run _ _ _).mono (fun _ r => r.1) (Lookup.run_main (F := Ideal) m ρ hi), ?_⟩
  refine (θ_run _ _ _).mono (fun r h c => ⟨?_, (h c).2⟩) (Cert.ReferenceIdeal.Value.run_blocks (F := Ideal) m' ρ')
  obtain ⟨h0, h1, h2⟩ := hargs c
  refine (h c).1.trans ((Take.result (F := Ideal) m' c (h2.trans (hi c))).trans ?_)
  funext j
  refine (value _ _ j).trans ?_
  exact congrArg₂ (Cert.KernelIdeal.Gen.k0_pay1 (F := Ideal)) (congrFun h0 j) (congrFun h1 j)

end Cert.Proof.Agree

end
-- ==== Proof.lean ====
/-
  The proof of `Cert.Claim`: the kernel's two frames (Proof/Frames.lean), the reference's frames (the generated
  certificates), the two named constants, and the value claim (Proof/Agree.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Gen.Reference
public import proofs.«01_k».proof.Proof.Gen.Reference.Frame
public import proofs.«01_k».proof.Proof.Gen.Pre_in_range
public import proofs.«01_k».proof.Proof.Frames
public import proofs.«01_k».proof.Proof.Agree

@[expose] public section

noncomputable section

namespace Cert.Proof

open Idealize.ShloMosaic

/-- Everything the certificate claims: both frames of the kernel and the reference's, each named constant's bit pattern the
    rounding of its real number, and the kernel's result equal to the reference's. -/
theorem claim : Cert.Claim :=
  ⟨Cert.Kernel.Gen.facts, Cert.KernelIdeal.Gen.facts, Cert.ReferenceIdeal.Gen.facts, Cert.Reference.Gen.facts, Cert.Pre_in_range.Gen.facts,
    Frames.kernel, Frames.kernelIdeal,
    fun m ρ _ => Cert.ReferenceIdeal.Gen.frame m ρ, fun m ρ _ => Cert.ReferenceIdeal.Gen.frame m ρ, fun m ρ _ => Cert.Reference.Gen.frame m ρ,
    IdealRules.named_const.statement Cert.KernelIdeal.κ "coef" .f32 0x3C9E79E8#32 ((13 / 672 : ℝ) : EReal) rfl,
    IdealRules.named_const.statement Cert.ReferenceIdeal.κ "rh" .f32 0x3F266666#32 ((13 / 20 : ℝ) : EReal) rfl,
    Agree.kernel_reference⟩

end Cert.Proof

end
